-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_time_ids_nonnegative [hPre_time_ids_nonnegative : Cert.Pre_time_ids_nonnegative.Facts] (m : (ℓ : Loc Cert.KernelIdeal.nD Cert.KernelIdeal.τ Cert.KernelIdeal.sig) → Buf (Elt Ideal) ℓ) : Prop :=
  ∀ c : Dev Cert.KernelIdeal.nD,
    (Cert.Pre_time_ids_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_time_ids_nonnegative [hPre_time_ids_nonnegative : Cert.Pre_time_ids_nonnegative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_time_ids_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_time_ids_nonnegative [hKernelIdeal : Cert.KernelIdeal.Facts] [hPre_time_ids_nonnegative : Cert.Pre_time_ids_nonnegative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_time_ids_nonnegative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_time_ids_nonnegative [hReferenceIdeal : Cert.ReferenceIdeal.Facts] [hPre_time_ids_nonnegative : Cert.Pre_time_ids_nonnegative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_time_ids_nonnegative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_time_ids_nonnegative [hKernelIdeal : Cert.KernelIdeal.Facts] [hReferenceIdeal : Cert.ReferenceIdeal.Facts] [hPre_time_ids_nonnegative : Cert.Pre_time_ids_nonnegative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_time_ids_nonnegative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_time_ids_nonnegative : Cert.Pre_time_ids_nonnegative.Facts),
    quiescent_Kernel (hKernel := hKernel)
    ∧ quiescent_KernelIdeal (hKernelIdeal := hKernelIdeal)
    ∧ quiescent_KernelIdeal_pre_time_ids_nonnegative (hKernelIdeal := hKernelIdeal) (hPre_time_ids_nonnegative := hPre_time_ids_nonnegative)
    ∧ quiescent_ReferenceIdeal (hReferenceIdeal := hReferenceIdeal)
    ∧ quiescent_ReferenceIdeal_pre_time_ids_nonnegative (hReferenceIdeal := hReferenceIdeal) (hPre_time_ids_nonnegative := hPre_time_ids_nonnegative)
    ∧ preserves_Kernel_KernelIdeal
    ∧ algebraic_KernelIdeal_ReferenceIdeal_pre_time_ids_nonnegative (hKernelIdeal := hKernelIdeal) (hReferenceIdeal := hReferenceIdeal) (hPre_time_ids_nonnegative := hPre_time_ids_nonnegative)
-- ==== Pre_time_ids_nonnegative.lean ====
abbrev S16x4096x4 : Shape := ⟨3, ![16, 4096, 4]⟩
abbrev S16x4096 : Shape := ⟨2, ![16, 4096]⟩
abbrev S4x128 : Shape := ⟨2, ![4, 128]⟩
abbrev S128x128 : Shape := ⟨2, ![128, 128]⟩
abbrev S_ : Shape := ⟨0, ![]⟩

class Facts : Prop where
  bcast_S_S16x4096 : S_.BroadcastsInDim S16x4096 (![] : Fin 0 → Fin S16x4096.rank)

variable [Facts]

def fn {F : FTy → Type} [FloatOps F] (main_arg0 : FVec F S16x4096x4 .f32) (main_arg1 : IVec S16x4096 32) (main_arg2 : FVec F S4x128 .f32) (main_arg3 : FVec F S128x128 .f32) : IVec S16x4096 1 :=
  let main_c : IVec S_ 32 := constantI S_ 32 0#32
  let main_v0 : IVec S16x4096 32 := broadcastInDim S16x4096 ![] bcast_S_S16x4096 main_c
  let main_v1 : IVec S16x4096 1 := cmpi .sge main_arg1 main_v0
  main_v1
-- ==== Kernel.lean ====
abbrev S16x4096x4 : Shape := ⟨3, ![16, 4096, 4]⟩
abbrev S16x4096 : Shape := ⟨2, ![16, 4096]⟩
abbrev S4x128 : Shape := ⟨2, ![4, 128]⟩
abbrev S128x128 : Shape := ⟨2, ![128, 128]⟩
abbrev S4x16x4096 : Shape := ⟨3, ![4, 16, 4096]⟩
abbrev S4x65536 : Shape := ⟨2, ![4, 65536]⟩
abbrev S1x65536 : Shape := ⟨2, ![1, 65536]⟩
abbrev S128x4 : Shape := ⟨2, ![128, 4]⟩
abbrev S16x128x2 : Shape := ⟨3, ![16, 128, 2]⟩
abbrev S4x32768 : Shape := ⟨2, ![4, 32768]⟩
abbrev S1x32768 : Shape := ⟨2, ![1, 32768]⟩
abbrev S8x128x2 : Shape := ⟨3, ![8, 128, 2]⟩
abbrev S128x32768 : Shape := ⟨2, ![128, 32768]⟩
abbrev S2x4096 : Shape := ⟨2, ![2, 4096]⟩
abbrev S1x4096 : Shape := ⟨2, ![1, 4096]⟩
abbrev S128x4096 : Shape := ⟨2, ![128, 4096]⟩
abbrev S128x2 : Shape := ⟨2, ![128, 2]⟩
abbrev S1x1x4096 : Shape := ⟨3, ![1, 1, 4096]⟩
abbrev S1 : Shape := ⟨1, ![1]⟩
abbrev S1x1x1 : Shape := ⟨3, ![1, 1, 1]⟩
abbrev S128x1 : Shape := ⟨2, ![128, 1]⟩
abbrev S1x128x1 : Shape := ⟨3, ![1, 128, 1]⟩
abbrev S2x16x128 : Shape := ⟨3, ![2, 16, 128]⟩

abbrev nBuf : Space → Nat
  | .hbm => 11
  | .vmem => 8
  | .smem => 0
  | _ => 0

abbrev bufTy : (tb : Table) → Fin (tcTables nBuf tb) → BufTy
  | .hbm, ⟨0, _⟩ => ⟨S16x4096x4, .f32⟩
  | .hbm, ⟨1, _⟩ => ⟨S16x4096, .i32⟩
  | .hbm, ⟨2, _⟩ => ⟨S4x128, .f32⟩
  | .hbm, ⟨3, _⟩ => ⟨S128x128, .f32⟩
  | .hbm, ⟨4, _⟩ => ⟨S4x16x4096, .f32⟩
  | .hbm, ⟨5, _⟩ => ⟨S4x65536, .f32⟩
  | .hbm, ⟨6, _⟩ => ⟨S1x65536, .i32⟩
  | .hbm, ⟨7, _⟩ => ⟨S128x4, .f32⟩
  | .hbm, ⟨8, _⟩ => ⟨S128x128, .f32⟩
  | .hbm, ⟨9, _⟩ => ⟨S16x128x2, .f32⟩
  | .hbm, ⟨10, _⟩ => ⟨S2x16x128, .f32⟩
  | .local _ .vmem, ⟨0, _⟩ => ⟨S4x32768, .f32⟩
  | .local _ .vmem, ⟨1, _⟩ => ⟨S4x32768, .f32⟩
  | .local _ .vmem, ⟨2, _⟩ => ⟨S1x32768, .i32⟩
  | .local _ .vmem, ⟨3, _⟩ => ⟨S1x32768, .i32⟩
  | .local _ .vmem, ⟨4, _⟩ => ⟨S128x4, .f32⟩
  | .local _ .vmem, ⟨5, _⟩ => ⟨S128x128, .f32⟩
  | .local _ .vmem, ⟨6, _⟩ => ⟨S8x128x2, .f32⟩
  | .local _ .vmem, ⟨7, _⟩ => ⟨S8x128x2, .f32⟩
  | _, _ => ⟨S16x4096x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32768 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x128x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16x4096x4 : Shape := ⟨3, ![16, 4096, 4]⟩
abbrev S16x4096 : Shape := ⟨2, ![16, 4096]⟩
abbrev S4x128 : Shape := ⟨2, ![4, 128]⟩
abbrev S128x128 : Shape := ⟨2, ![128, 128]⟩
abbrev S_ : Shape := ⟨0, ![]⟩
abbrev S16x4096x128 : Shape := ⟨3, ![16, 4096, 128]⟩
abbrev S16x4096x1 : Shape := ⟨3, ![16, 4096, 1]⟩
abbrev S16 : Shape := ⟨1, ![16]⟩
abbrev S16x128 : Shape := ⟨2, ![16, 128]⟩
abbrev S16x1 : Shape := ⟨2, ![16, 1]⟩
abbrev S1x16x128 : Shape := ⟨3, ![1, 16, 128]⟩
abbrev S2x16x128 : Shape := ⟨3, ![2, 16, 128]⟩

abbrev nBuf : Space → Nat
  | .hbm => 59
  | .vmem => 0
  | .smem => 0
  | _ => 0

abbrev bufTy : (tb : Table) → Fin (tcTables nBuf tb) → BufTy
  | .hbm, ⟨0, _⟩ => ⟨S16x4096x4, .f32⟩
  | .hbm, ⟨1, _⟩ => ⟨S16x4096, .i32⟩
  | .hbm, ⟨2, _⟩ => ⟨S4x128, .f32⟩
  | .hbm, ⟨3, _⟩ => ⟨S128x128, .f32⟩
  | .hbm, ⟨4, _⟩ => ⟨S16x4096, .i32⟩
  | .hbm, ⟨5, _⟩ => ⟨S_, .i32⟩
  | .hbm, ⟨6, _⟩ => ⟨S16x4096, .i32⟩
  | .hbm, ⟨7, _⟩ => ⟨S16x4096, .i1⟩
  | .hbm, ⟨8, _⟩ => ⟨S16x4096, .f32⟩
  | .hbm, ⟨9, _⟩ => ⟨S16x4096x128, .f32⟩
  | .hbm, ⟨10, _⟩ => ⟨S_, .f32⟩
  | .hbm, ⟨11, _⟩ => ⟨S16x4096x128, .f32⟩
  | .hbm, ⟨12, _⟩ => ⟨S16x4096x128, .f32⟩
  | .hbm, ⟨13, _⟩ => ⟨S16x4096x128, .f32⟩
  | .hbm, ⟨14, _⟩ => ⟨S_, .f32⟩
  | .hbm, ⟨15, _⟩ => ⟨S16x4096x128, .f32⟩
  | .hbm, ⟨16, _⟩ => ⟨S16x4096x128, .f32⟩
  | .hbm, ⟨17, _⟩ => ⟨S16x4096x1, .f32⟩
  | .hbm, ⟨18, _⟩ => ⟨S16x4096x128, .f32⟩
  | .hbm, ⟨19, _⟩ => ⟨S16x4096x128, .f32⟩
  | .hbm, ⟨20, _⟩ => ⟨S_, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16x128, .f32⟩
  | .hbm, ⟨27, _⟩ => ⟨S16x1, .f32⟩
  | .hbm, ⟨28, _⟩ => ⟨S16x128, .f32⟩
  | .hbm, ⟨29, _⟩ => ⟨S16x128, .f32⟩
  | .hbm, ⟨30, _⟩ => ⟨S16x4096, .i32⟩
  | .hbm, ⟨31, _⟩ => ⟨S_, .i32⟩
  | .hbm, ⟨32, _⟩ => ⟨S16x4096, .i32⟩
  | .hbm, ⟨33, _⟩ => ⟨S16x4096, .i1⟩
  | .hbm, ⟨34, _⟩ => ⟨S16x4096, .f32⟩
  | .hbm, ⟨35, _⟩ => ⟨S16x4096x128, .f32⟩
  | .hbm, ⟨36, _⟩ => ⟨S_, .f32⟩
  | .hbm, ⟨37, _⟩ => ⟨S16x4096x128, .f32⟩
  | .hbm, ⟨38, _⟩ => ⟨S16x4096x128, .f32⟩
  | .hbm, ⟨39, _⟩ => ⟨S16x4096x128, .f32⟩
  | .hbm, ⟨40, _⟩ => ⟨S_, .f32⟩
  | .hbm, ⟨41, _⟩ => ⟨S16x4096x128, .f32⟩
  | .hbm, ⟨42, _⟩ => ⟨S16x4096x128, .f32⟩
  | .hbm, ⟨43, _⟩ => ⟨S16x4096x1, .f32⟩
  | .hbm, ⟨44, _⟩ => ⟨S16x4096x128, .f32⟩
  | .hbm, ⟨45, _⟩ => ⟨S16x4096x128, .f32⟩
  | .hbm, ⟨46, _⟩ => ⟨S_, .f32⟩
  | .hbm, ⟨47, _⟩ => ⟨S16, .f32⟩
  | .hbm, ⟨48, _⟩ => ⟨S_, .f32⟩
  | .hbm, ⟨49, _⟩ => ⟨S16, .f32⟩
  | .hbm, ⟨50, _⟩ => ⟨S16, .f32⟩
  | .hbm, ⟨51, _⟩ => ⟨S_, .f32⟩
  | .hbm, ⟨52, _⟩ => ⟨S16x128, .f32⟩
  | .hbm, ⟨53, _⟩ => ⟨S16x1, .f32⟩
  | .hbm, ⟨54, _⟩ => ⟨S16x128, .f32⟩
  | .hbm, ⟨55, _⟩ => ⟨S16x128, .f32⟩
  | .hbm, ⟨56, _⟩ => ⟨S1x16x128, .f32⟩
  | .hbm, ⟨57, _⟩ => ⟨S1x16x128, .f32⟩
  | .hbm, ⟨58, _⟩ => ⟨S2x16x128, .f32⟩
  | _, _ => ⟨S16x4096x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Proof.Block.lean ====
module

public import proofs.«01_k».proof.Proof.Gen.KernelIdeal.Frame
public import Idealize.ShloMosaic.Lib.Pipeline.ValueKit

/-! What one grid point of the kernel stores: for each of its eight batch rows and each of the two time ids, the mean of the
    second hidden layer over the points of that row that carry the id. -/

@[expose] public section

set_option maxRecDepth 16384

noncomputable section

open Idealize.ShloMosaic Idealize.ShloMosaic.TcCoe Idealize.SL.Sem

namespace Cert.KernelIdeal.Mean

open Cert.KernelIdeal Cert.KernelIdeal.Gen

/-- 1 where the time id `x` is `w`, else 0. -/
def hit (w x : BitVec 32) : EReal := if x = w then 1 else 0

/-- A comparison for equality, widened to 32 bits and read as a signed integer, is `hit`. -/
theorem hit_signed (w x : BitVec 32) :
    FloatOps.sitofp (F := Ideal) .f32 (BitVec.setWidth 32 (IntOp.cmpi .eq x w)) = hit w x := by
  unfold hit
  by_cases h : x = w
  · subst h
    have e : BitVec.setWidth 32 (IntOp.cmpi .eq x x) = 1#32 := by simp [IntOp.cmpi]
    rw [e, if_pos rfl]
    show (((1#32 : BitVec 32).toInt : ℝ) : EReal) = 1
    norm_num
  · have e : BitVec.setWidth 32 (IntOp.cmpi .eq x w) = 0#32 := by
      have hb : (x == w) = false := beq_eq_false_iff_ne.mpr h
      simp [IntOp.cmpi, hb]
    rw [e, if_neg h]
    show (((0#32 : BitVec 32).toInt : ℝ) : EReal) = 0
    norm_num

/-- A comparison for equality, read as an unsigned integer, is `hit`. -/
theorem hit_unsigned (w x : BitVec 32) :
    FloatOps.uitofp (F := Ideal) .f32 (IntOp.cmpi .eq x w) = hit w x := by
  unfold hit
  by_cases h : x = w
  · subst h
    have e : IntOp.cmpi .eq x x = 1#1 := by simp [IntOp.cmpi]
    rw [e, if_pos rfl]
    show (((1#1 : BitVec 1).toNat : ℝ) : EReal) = 1
    norm_num
  · have e : IntOp.cmpi .eq x w = 0#1 := by
      have hb : (x == w) = false := beq_eq_false_iff_ne.mpr h
      simp [IntOp.cmpi, hb]
    rw [e, if_neg h]
    show (((0#1 : BitVec 1).toNat : ℝ) : EReal) = 0
    norm_num

/-- The body's arithmetic for one batch row and one time id: the row's points start at column `o`, the id is `w` and its sums
    stand in column `s` of the contraction's result. -/
def pool (o s : ℕ) (w : BitVec 32) (hi : S1x32768.Slices ![0, o] S1x4096) (hh : S128x32768.Slices ![0, o] S128x4096)
    (hs : S128x2.Slices ![0, s] S128x1) (v4 : IVec S1x32768 32) (v18 : FVec Ideal S128x32768 .bf16) : FVec Ideal S1x128x1 .f32 :=
  shapeCast S1x128x1
    (divf
      (extractStridedSlice S128x1 ![0, s]
        (matmul dot_S128x4096_S2x4096_S128x2_1_1_0_0_n_n none (extractStridedSlice S128x4096 ![0, o] v18 hh)
          (truncf .bf16 (sitofp .f32 (extui 32 (cmpi .eq (broadcastTo S2x4096
            (shapeCast S1x4096 (extractStridedSlice S1x4096 ![0, o] v4 hi) shapeCasts_S1x4096_S1x4096)
            broadcasts_S1x4096_S2x4096) k0_pay6) natLt_1_32)) bitsLt_bf16_f32)
          (constant S128x2 .f32 0x00000000#32)) hs)
      (broadcast S128x1 (Scalar.maximumf
        (extractAt ![0, 0, 0] (shapeCast S1x1x1 (multiReduction .add [1, 2] S1
          (shapeCast S1x1x4096 (sitofp .f32 (extui 32 (cmpi .eq (extractStridedSlice S1x4096 ![0, o] v4 hi)
            (broadcast S1x4096 w)) natLt_1_32)) shapeCasts_S1x4096_S1x1x4096)
          0x00000000#32 reduces_S1x1x4096_S1 (.inl rfl) rfl) shapeCasts_S1_S1x1x1) inpos_S1x1x1_p0_0_0)
        (Scalar.ofBits .f32 0x3F800000#32))))
    shapeCasts_S128x1_S1x128x1

/-- The mean for id `w`, at hidden unit `h`, over the 4096 columns from `o` on. -/
def mean (o : ℕ) (w : BitVec 32) (ho : o + 4096 ≤ 32768) (v4 : IVec S1x32768 32) (v18 : FVec Ideal S128x32768 .bf16)
    (h : Fin 128) : EReal :=
  Ideal.div (∑ n : Fin 4096, v18 (ix2 h ⟨o + n, by omega⟩) * hit w (v4 (ix2 0 ⟨o + n, by omega⟩)))
    (max (∑ n : Fin 4096, hit w (v4 (ix2 0 ⟨o + n, by omega⟩))) 1)

/-- What `pool` holds at hidden unit `h` is that mean, when column `s` of the contraction is the one of id `w`. -/
theorem pool_at (o s : ℕ) (w : BitVec 32) (hi hh hs) (v4 : IVec S1x32768 32) (v18 : FVec Ideal S128x32768 .bf16)
    (ho : o + 4096 ≤ 32768) (hw : BitVec.ofNat 32 s + 1#32 = w) (h : Fin 128) :
    pool o s w hi hh hs v4 v18 (ix3 0 h 0) = mean o w ho v4 v18 h := by
  unfold pool mean
  pointwise [k0_pay6]
  have e : IntOp.addi (BitVec.ofNat 32 s) 1#32 = w := hw
  simp only [e, hit_signed, Finset.univ_unique, Finset.sum_singleton]

/-- `pool` as one of the body's stored tiles: element `x` of the tile lands at element `y` of the block. -/
theorem pool_tile (o s : ℕ) (w : BitVec 32) (hi hh hs) (v4 : IVec S1x32768 32) (v18 : FVec Ideal S128x32768 .bf16)
    (x : S1x128x1.Idx) (i : Fin 8) (h : Fin 128) (t : Fin 2) (hw : BitVec.ofNat 32 s + 1#32 = w)
    (h0 : o = 4096 * i.val) (h1 : h.val = (x 1).val) (h2 : t.val = s) :
    pool o s w hi hh hs v4 v18 x
      = mean (4096 * i.val) (BitVec.ofNat 32 (t.val + 1)) (by omega) v4 v18 h := by
  idx_vars x
  obtain rfl : h = x1 := Fin.ext h1
  obtain rfl : x0 = 0 := Subsingleton.elim _ _
  obtain rfl : x2 = 0 := Subsingleton.elim _ _
  subst h0 h2
  have hw' : BitVec.ofNat 32 (t.val + 1) = w := by rw [← hw]; exact BitVec.ofNat_add ..
  rw [hw']
  exact pool_at _ _ w hi hh hs v4 v18 _ hw h

/-- The second hidden layer of one block, at hidden unit `h` and column `j`. -/
theorem layer2 (x0 : Vec Ideal S4x32768 .f32) (x2 : Vec Ideal S128x4 .f32) (x3 : Vec Ideal S128x128 .f32) (h : Fin 128)
    (j : Fin 32768) :
    k0_pay5 (F := Ideal) x0 x2 x3 (ix2 h j)
      = max (∑ k : Fin 128, x3 (ix2 h k) * max (∑ d : Fin 4, x2 (ix2 k d) * x0 (ix2 d j)) 0) 0 := by
  pointwise [k0_pay5]

/-- What a grid point leaves in its block of the result, element by element. -/
theorem block_at (x0 : Vec Ideal S4x32768 .f32) (x1 : Vec Ideal S1x32768 .i32) (x2 : Vec Ideal S128x4 .f32)
    (x3 : Vec Ideal S128x128 .f32) (i : Fin 8) (h : Fin 128) (t : Fin 2) :
    out0_4 (F := Ideal) x0 x1 x2 x3 (ix3 i h t)
      = mean (4096 * i.val) (BitVec.ofNat 32 (t.val + 1)) (by omega) x1 (k0_pay5 (F := Ideal) x0 x2 x3) h := by
  have e1 : k0_pay43 (F := Ideal) x0 x1 x2 x3 = x1 := by
    funext y
    idx_vars y
    obtain rfl : y0 = 0 := Subsingleton.elim _ _
    pointwise [k0_pay43, k0_pay4]
  have e2 : k0_pay44 (F := Ideal) x0 x1 x2 x3 = k0_pay5 (F := Ideal) x0 x2 x3 := by
    unfold k0_pay44
    rw [View.ld_unit_lit, View.ld_unit_lit, View.ld_unit_lit] <;> decide
  refine Eq.trans (b := mean (4096 * i.val) (BitVec.ofNat 32 (t.val + 1)) (by omega)
    (k0_pay43 (F := Ideal) x0 x1 x2 x3) (k0_pay44 (F := Ideal) x0 x1 x2 x3) h) ?_ (by rw [e1, e2])
  clear e1 e2
  unfold out0_4
  have tile := fun o s w hi hh hs x => pool_tile o s w hi hh hs (k0_pay43 (F := Ideal) x0 x1 x2 x3)
    (k0_pay44 (F := Ideal) x0 x1 x2 x3) x i h t
  canon_tiles x g
  case piece0 => exact tile 28672 1 2#32 (by decide) (by decide) (by decide) x rfl (by simp at g0; omega) g1 (by simp at g2; omega)
  case piece1 => exact tile 28672 0 1#32 (by decide) (by decide) (by decide) x rfl (by simp at g0; omega) g1 (by simp at g2; omega)
  case piece2 => exact tile 24576 1 2#32 (by decide) (by decide) (by decide) x rfl (by simp at g0; omega) g1 (by simp at g2; omega)
  case piece3 => exact tile 24576 0 1#32 (by decide) (by decide) (by decide) x rfl (by simp at g0; omega) g1 (by simp at g2; omega)
  case piece4 => exact tile 20480 1 2#32 (by decide) (by decide) (by decide) x rfl (by simp at g0; omega) g1 (by simp at g2; omega)
  case piece5 => exact tile 20480 0 1#32 (by decide) (by decide) (by decide) x rfl (by simp at g0; omega) g1 (by simp at g2; omega)
  case piece6 => exact tile 16384 1 2#32 (by decide) (by decide) (by decide) x rfl (by simp at g0; omega) g1 (by simp at g2; omega)
  case piece7 => exact tile 16384 0 1#32 (by decide) (by decide) (by decide) x rfl (by simp at g0; omega) g1 (by simp at g2; omega)
  case piece8 => exact tile 12288 1 2#32 (by decide) (by decide) (by decide) x rfl (by simp at g0; omega) g1 (by simp at g2; omega)
  case piece9 => exact tile 12288 0 1#32 (by decide) (by decide) (by decide) x rfl (by simp at g0; omega) g1 (by simp at g2; omega)
  case piece10 => exact tile 8192 1 2#32 (by decide) (by decide) (by decide) x rfl (by simp at g0; omega) g1 (by simp at g2; omega)
  case piece11 => exact tile 8192 0 1#32 (by decide) (by decide) (by decide) x rfl (by simp at g0; omega) g1 (by simp at g2; omega)
  case piece12 => exact tile 4096 1 2#32 (by decide) (by decide) (by decide) x rfl (by simp at g0; omega) g1 (by simp at g2; omega)
  case piece13 => exact tile 4096 0 1#32 (by decide) (by decide) (by decide) x rfl (by simp at g0; omega) g1 (by simp at g2; omega)
  case piece14 => exact tile 0 1 2#32 (by decide) (by decide) (by decide) x rfl (by simp at g0; omega) g1 (by simp at g2; omega)
  case piece15 => exact tile 0 0 1#32 (by decide) (by decide) (by decide) x rfl (by simp at g0; omega) g1 (by simp at g2; omega)

end Cert.KernelIdeal.Mean

end
-- ==== Proof.Array.lean ====
module

public import proofs.«01_k».proof.Proof.Block

/-! What the kernel's result array holds after the run, in terms of the argument arrays. -/

@[expose] public section

set_option maxRecDepth 16384

noncomputable section

open Idealize.ShloMosaic Idealize.ShloMosaic.TcCoe Idealize.SL.Sem
open Idealize.ShloMosaic.Pipeline (Dat)

namespace Cert.KernelIdeal.Mean

open Cert.KernelIdeal Cert.KernelIdeal.Gen

/-- The second hidden layer at point `n` of batch row `b`, unit `h`. -/
def unit2 (P : FVec Ideal S16x4096x4 .f32) (W1 : FVec Ideal S4x128 .f32) (W2 : FVec Ideal S128x128 .f32) (b : Fin 16)
    (n : Fin 4096) (h : Fin 128) : EReal :=
  max (∑ k : Fin 128, W2 (ix2 k h) * max (∑ d : Fin 4, W1 (ix2 d k) * P (ix3 b n d)) 0) 0

/-- The mean of the second hidden layer over the points of batch row `b` whose time id is `t + 1`, at unit `h`; the divisor
    is at least 1. -/
def meanOf (P : FVec Ideal S16x4096x4 .f32) (T : IVec S16x4096 32) (W1 : FVec Ideal S4x128 .f32)
    (W2 : FVec Ideal S128x128 .f32) (b : Fin 16) (h : Fin 128) (t : Fin 2) : EReal :=
  Ideal.div (∑ n : Fin 4096, unit2 P W1 W2 b n h * hit (BitVec.ofNat 32 (t.val + 1)) (T (ix2 b n)))
    (max (∑ n : Fin 4096, hit (BitVec.ofNat 32 (t.val + 1)) (T (ix2 b n))) 1)

variable (m : (ℓ : Loc nD τ sig) → Buf (Elt Ideal) ℓ)

/-- Which block each window takes at each grid point. -/
theorem places : ∀ t : Fin cfg0.N, win0_0.index t = ![0, t.val] ∧ win0_1.index t = ![0, t.val] ∧ win0_2.index t = ![0, 0]
    ∧ win0_3.index t = ![0, 0] ∧ win0_4.index t = ![t.val, 0, 0] :=
  (by decide +kernel : ∀ t : Fin grid0.N, _)

/-- What the region finds in the first window's array: the points with the coordinate axis in front, flattened. -/
theorem entry_points (c : Dev nD) : V m c main_v1
    = shapeCast S4x65536 (transpose S4x16x4096 [2, 0, 1] (show FVec Ideal S16x4096x4 .f32 from m ((c : Thread nD τ).loc main_arg0))
        transposes_S16x4096x4_S4x16x4096_2_0_1) shapeCasts_S4x16x4096_S4x65536 := by
  simp only [V, V0, List.flatten_cons, List.flatten_nil, List.append_nil]
  after_results_simp
  rfl

/-- What the region finds in the second window's array: the time ids, flattened. -/
theorem entry_ids (c : Dev nD) : V m c main_v2
    = shapeCast S1x65536 (show IVec S16x4096 32 from m ((c : Thread nD τ).loc main_arg1)) shapeCasts_S16x4096_S1x65536 := by
  simp only [V, V0, List.flatten_cons, List.flatten_nil, List.append_nil]
  after_results_simp
  rfl

/-- What the region finds in the third window's array: the first weights transposed. -/
theorem entry_w1 (c : Dev nD) : V m c main_v3
    = transpose S128x4 [1, 0] (show FVec Ideal S4x128 .f32 from m ((c : Thread nD τ).loc main_arg2)) transposes_S4x128_S128x4_1_0 := by
  simp only [V, V0, List.flatten_cons, List.flatten_nil, List.append_nil]
  after_results_simp

/-- What the region finds in the fourth window's array: the second weights transposed. -/
theorem entry_w2 (c : Dev nD) : V m c main_v4
    = transpose S128x128 [1, 0] (show FVec Ideal S128x128 .f32 from m ((c : Thread nD τ).loc main_arg3))
        transposes_S128x128_S128x128_1_0 := by
  simp only [V, V0, List.flatten_cons, List.flatten_nil, List.append_nil]
  after_results_simp

/-- The transposed points array read through a grid point's block. -/
theorem points_at (c : Dev nD) (t : Fin cfg0.N) (i : Fin 8) (n : Fin 4096) (d : Fin 4) (b : Fin 16)
    (hb : b.val = 8 * t.val + i.val) :
    (show FVec Ideal S4x32768 .f32 from iblk m c 0 t) (ix2 d ⟨4096 * i.val + n.val, by omega⟩)
      = (show FVec Ideal S16x4096x4 .f32 from m ((c : Thread nD τ).loc main_arg0)) (ix3 b n d) := by
  blk_simp [iblk]
  rw [entry_points m c]
  pointwise
  blk_ext [places t]

/-- The time ids read through a grid point's block. -/
theorem ids_at (c : Dev nD) (t : Fin cfg0.N) (i : Fin 8) (n : Fin 4096) (b : Fin 16)
    (hb : b.val = 8 * t.val + i.val) :
    (show IVec S1x32768 32 from iblk m c 1 t) (ix2 0 ⟨4096 * i.val + n.val, by omega⟩)
      = (show IVec S16x4096 32 from m ((c : Thread nD τ).loc main_arg1)) (ix2 b n) := by
  blk_simp [iblk]
  rw [entry_ids m c]
  pointwise
  blk_ext [places t]

/-- The first weights, transposed, read through a grid point's block. -/
theorem w1_at (c : Dev nD) (t : Fin cfg0.N) (d : Fin 4) (k : Fin 128) :
    (show FVec Ideal S128x4 .f32 from iblk m c 2 t) (ix2 k d)
      = (show FVec Ideal S4x128 .f32 from m ((c : Thread nD τ).loc main_arg2)) (ix2 d k) := by
  blk_simp [iblk]
  rw [entry_w1 m c]
  pointwise
  blk_ext [places t]

/-- The second weights, transposed, read through a grid point's block. -/
theorem w2_at (c : Dev nD) (t : Fin cfg0.N) (k h : Fin 128) :
    (show FVec Ideal S128x128 .f32 from iblk m c 3 t) (ix2 h k)
      = (show FVec Ideal S128x128 .f32 from m ((c : Thread nD τ).loc main_arg3)) (ix2 k h) := by
  blk_simp [iblk]
  rw [entry_w2 m c]
  pointwise
  blk_ext [places t]

/-- The grid's blocks tile the region's result: after the run it holds the means, with the time id as its last axis. -/
theorem array_after (c : Dev nD) :
    (show FVec Ideal S16x128x2 .f32 from (dats m 0 c).arrAt 4 (cfgs 0).N)
      = fun y => meanOf (m ((c : Thread nD τ).loc main_arg0)) (m ((c : Thread nD τ).loc main_arg1))
          (m ((c : Thread nD τ).loc main_arg2)) (m ((c : Thread nD τ).loc main_arg3)) (y 0) (y 1) (y 2) := by
  refine (dats m 0 c).arrAt_eq_of_covers 4 _ (by decide +kernel) fun t _ y => ?_
  blk_simp
  rw [after0_4]
  obtain ⟨i, h, q, rfl⟩ : ∃ (i : Fin 8) (h : Fin 128) (q : Fin 2), y = ix3 i h q := ⟨y 0, y 1, y 2, eq_ix3 y⟩
  refine (block_at (iblk m c 0 t) (iblk m c 1 t) (iblk m c 2 t) (iblk m c 3 t) i h q).trans ?_
  have ht : t.val < 2 := lt_of_lt_of_eq t.isLt N_0
  have hb : 8 * t.val + i.val < 16 := by omega
  have e0 : (((win0_4.blk t).view.emb (ix3 i h q) : S16x128x2.Idx) 0 : Fin 16) = (⟨8 * t.val + i.val, hb⟩ : Fin 16) := by
    apply Fin.ext
    blk_simp [places t]
    show t.val * 8 + i.val = 8 * t.val + i.val
    omega
  have e1 : (((win0_4.blk t).view.emb (ix3 i h q) : S16x128x2.Idx) 1 : Fin 128) = h := by
    apply Fin.ext
    blk_simp [places t]
  have e2 : (((win0_4.blk t).view.emb (ix3 i h q) : S16x128x2.Idx) 2 : Fin 2) = q := by
    apply Fin.ext
    blk_simp [places t]
  refine Eq.trans ?_ (congr (congr (congrArg (meanOf _ _ _ _) e0.symm) e1.symm) e2.symm)
  have hid : ∀ n : Fin 4096, k0_pay5 (F := Ideal) (iblk m c 0 t) (iblk m c 2 t) (iblk m c 3 t) (ix2 h ⟨4096 * i.val + n.val, by omega⟩)
      = unit2 (m ((c : Thread nD τ).loc main_arg0)) (m ((c : Thread nD τ).loc main_arg2))
          (m ((c : Thread nD τ).loc main_arg3)) ⟨8 * t.val + i.val, hb⟩ n h := fun n => by
    refine (layer2 (iblk m c 0 t) (iblk m c 2 t) (iblk m c 3 t) h _).trans ?_
    unfold unit2
    refine congrArg (max · (0 : EReal)) (Finset.sum_congr rfl fun k _ => ?_)
    refine congr (congrArg _ (w2_at m c t k h)) (congrArg (max · (0 : EReal)) (Finset.sum_congr rfl fun d _ => ?_))
    exact congr (congrArg _ (w1_at m c t d k)) (points_at m c t i n d _ rfl)
  have hid2 : ∀ n : Fin 4096, (show IVec S1x32768 32 from iblk m c 1 t) (ix2 0 ⟨4096 * i.val + n.val, by omega⟩)
      = (show IVec S16x4096 32 from m ((c : Thread nD τ).loc main_arg1)) (ix2 ⟨8 * t.val + i.val, hb⟩ n) :=
    fun n => ids_at m c t i n _ rfl
  unfold mean meanOf
  refine congr (congrArg Ideal.div (Finset.sum_congr rfl fun n _ => ?_)) (congrArg (max · (1 : EReal)) (Finset.sum_congr rfl fun n _ => ?_))
  · exact congr (congrArg _ (hid n)) (congrArg _ (hid2 n))
  · exact congrArg _ (hid2 n)

/-- The result buffer after the host transpose that follows the region. -/
theorem result_after (c : Dev nD) :
    Pipeline.afterTail₀ cfgs (dats m) 0 (V0 m) [hostOps1] c main_v6
      = transpose S2x16x128 [2, 0, 1] (show FVec Ideal S16x128x2 .f32 from (dats m 0 c).arrAt 4 (cfgs 0).N)
          transposes_S16x128x2_S2x16x128_2_0_1 := by
  unfold Pipeline.afterTail₀
  simp only [List.flatten_cons, List.flatten_nil, List.append_nil]
  after_results_simp
  exact congrArg (fun A => transpose S2x16x128 [2, 0, 1] (show FVec Ideal S16x128x2 .f32 from A)
      transposes_S16x128x2_S2x16x128_2_0_1)
    (Pipeline.withArrays_arr spec0 (by decide) c (V0 m c) (fun w => (dats m 0 c).arrAt w (cfgs 0).N) 4)

/-- The result buffer at the end of the run: the mean for id `q + 1`, batch row `b`, unit `h` at index `(q, b, h)`. -/
theorem result_at (c : Dev nD) :
    (show FVec Ideal S2x16x128 .f32 from Pipeline.afterTail₀ cfgs (dats m) 0 (V0 m) [hostOps1] c main_v6)
      = fun y => meanOf (m ((c : Thread nD τ).loc main_arg0)) (m ((c : Thread nD τ).loc main_arg1))
          (m ((c : Thread nD τ).loc main_arg2)) (m ((c : Thread nD τ).loc main_arg3)) (y 1) (y 2) (y 0) := by
  refine (result_after m c).trans ?_
  rw [array_after m c]
  funext y
  pointwise

/-- The kernel's run: its result holds the means, its arguments end as they were. -/
theorem run (ρ : Dev nD → PrngReg) :
    θ_run (defs (F := Ideal)) (onTc (τ := τ) (main (F := Ideal))) ⟨m, fun _ => 0, ρ⟩ fun r => ∀ c : Dev nD,
      (show FVec Ideal S2x16x128 .f32 from r.2.mem ((c.tc : Thread nD τ).loc main_v6))
          = (fun y => meanOf (m ((c : Thread nD τ).loc main_arg0)) (m ((c : Thread nD τ).loc main_arg1))
              (m ((c : Thread nD τ).loc main_arg2)) (m ((c : Thread nD τ).loc main_arg3)) (y 1) (y 2) (y 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v6 (Pipeline.mem_restRefs_of main_v6 (by decide) (by decide))).trans (result_at m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Mean

end
-- ==== Proof.Ref.lean ====
module

public import proofs.«01_k».proof.Proof.Gen.ReferenceIdeal.Run
public import proofs.«01_k».proof.Proof.Array
public import Idealize.ShloMosaic.Lib.Quiescent

/-! What the reference computes, read at an index, and that it is what the kernel's result array holds. -/

@[expose] public section

set_option maxRecDepth 16384

noncomputable section

open Idealize.ShloMosaic Idealize.ShloMosaic.TcCoe Idealize.SL.Sem

namespace Cert.ReferenceIdeal.Mean

open Cert.ReferenceIdeal Cert.ReferenceIdeal.Gen
open Cert.KernelIdeal.Mean (hit hit_unsigned unit2 meanOf)

/-- The reference's mean for one time id `w`, as the program composes it from its arguments. -/
def refMean (w : BitVec 32) (P : FVec Ideal S16x4096x4 .f32) (T : IVec S16x4096 32) (W1 : FVec Ideal S4x128 .f32)
    (W2 : FVec Ideal S128x128 .f32) : FVec Ideal S16x128 .f32 :=
  Host.divf
    (Host.reduceAdd
      (mulf
        (maximumf
          (Host.dotGeneral dot_S16x4096x128_S128x128_S16x4096x128_2_0_01_1_n_n none
            (maximumf (Host.dotGeneral dot_S16x4096x4_S4x128_S16x4096x128_2_0_01_1_n_n none P W1)
              (broadcastInDim S16x4096x128 ![] bcast_S_S16x4096x128 (constant S_ .f32 0x00000000#32)))
            W2)
          (broadcastInDim S16x4096x128 ![] bcast_S_S16x4096x128 (constant S_ .f32 0x00000000#32)))
        (broadcastInDim S16x4096x128 ![0, 1, 2] bcast_S16x4096x1_S16x4096x128_0_1_2
          (broadcastInDim S16x4096x1 ![0, 1] bcast_S16x4096_S16x4096x1_0_1
            (uitofp .f32 (cmpi .eq (absi T) (broadcastInDim S16x4096 ![] bcast_S_S16x4096 (constantI S_ 32 w)))))))
      (constant S_ .f32 0x00000000#32) reducesTo_S16x4096x128_S16x128_d1 h_S_)
    (broadcastInDim S16x128 ![0, 1] bcast_S16x1_S16x128_0_1
      (broadcastInDim S16x1 ![0] bcast_S16_S16x1_0
        (maximumf
          (Host.reduceAdd (uitofp .f32 (cmpi .eq (absi T) (broadcastInDim S16x4096 ![] bcast_S_S16x4096 (constantI S_ 32 w))))
            (constant S_ .f32 0x00000000#32) reducesTo_S16x4096_S16_d1 h_S_)
          (broadcastInDim S16 ![] bcast_S_S16 (constant S_ .f32 0x3F800000#32)))))

/-- The reference's result: the means for ids 1 and 2, stacked. -/
def refAll (P : FVec Ideal S16x4096x4 .f32) (T : IVec S16x4096 32) (W1 : FVec Ideal S4x128 .f32)
    (W2 : FVec Ideal S128x128 .f32) : FVec Ideal S2x16x128 .f32 :=
  concatenate S2x16x128 0
    [⟨S1x16x128, broadcastInDim S1x16x128 ![1, 2] bcast_S16x128_S1x16x128_1_2 (refMean 1#32 P T W1 W2)⟩,
      ⟨S1x16x128, broadcastInDim S1x16x128 ![1, 2] bcast_S16x128_S1x16x128_1_2 (refMean 2#32 P T W1 W2)⟩]
    concatenates_S1x16x128_S1x16x128_S2x16x128_d0

/-- The absolute value of a word that is not negative is the word. -/
theorem abs_of_nonneg (x : BitVec 32) (hx : IntOp.cmpi .sge x 0#32 = 1#1) : IntOp.absi x = x := by
  unfold IntOp.absi
  by_cases h : x.msb
  · exfalso
    have hs : BitVec.sle 0#32 x = false := by
      have hneg : x.toInt < 0 := BitVec.toInt_neg_of_msb_true h
      simp [BitVec.sle, hneg]
    simp [IntOp.cmpi, hs] at hx
  · rw [if_neg h]

/-- The reference's mean at batch row `b` and unit `h`, of time ids that are not negative. -/
theorem refMean_at (P : FVec Ideal S16x4096x4 .f32) (T : IVec S16x4096 32) (W1 : FVec Ideal S4x128 .f32)
    (W2 : FVec Ideal S128x128 .f32) (hT : ∀ i, IntOp.cmpi .sge (T i) 0#32 = 1#1) (b : Fin 16) (h : Fin 128) (t : Fin 2) :
    refMean (BitVec.ofNat 32 (t.val + 1)) P T W1 W2 (ix2 b h) = meanOf P T W1 W2 b h t := by
  pointwise [refMean, meanOf, unit2]
  have hm : ∀ x y : EReal, x * y = y * x := mul_comm
  have e : ∀ n, max (∑ k, max (∑ d, P (ix3 b n d) * W1 (ix2 d k)) 0 * W2 (ix2 k h)) 0
      = (max (∑ k, W2 (ix2 k h) * max (∑ d, W1 (ix2 d k) * P (ix3 b n d)) 0) 0 : EReal) := fun n =>
    congrArg (max · (0 : EReal)) (Finset.sum_congr rfl fun k _ => (hm _ _).trans
      (congrArg (W2 (ix2 k h) * ·) (congrArg (max · (0 : EReal)) (Finset.sum_congr rfl fun d _ => hm _ _))))
  simp only [abs_of_nonneg _ (hT _), hit_unsigned, e]

/-- The reference's result at an index, of time ids that are not negative. -/
theorem refAll_at (P : FVec Ideal S16x4096x4 .f32) (T : IVec S16x4096 32) (W1 : FVec Ideal S4x128 .f32)
    (W2 : FVec Ideal S128x128 .f32) (hT : ∀ i, IntOp.cmpi .sge (T i) 0#32 = 1#1) :
    refAll P T W1 W2 = fun y => meanOf P T W1 W2 (y 1) (y 2) (y 0) := by
  funext y
  obtain ⟨t, b, h, rfl⟩ : ∃ (t : Fin 2) (b : Fin 16) (h : Fin 128), y = ix3 t b h := ⟨y 0, y 1, y 2, eq_ix3 y⟩
  pointwise [refAll]
  by_cases ht : t.val < 1
  · rw [dif_pos ht]
    obtain rfl : t = 0 := Fin.ext (by show t.val = 0; omega)
    exact refMean_at P T W1 W2 hT b h 0
  · rw [dif_neg ht]
    obtain rfl : t = 1 := Fin.ext (by show t.val = 1; omega)
    exact refMean_at P T W1 W2 hT b h 1

/-- The reference's run: its result is `refAll` of its arguments, which are unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v42)
          = refAll (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.ReferenceIdeal.Value.run m ρ

/-- The reference runs, leaves its arguments as they were and every semaphore counter at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c => (h c).2, sem_eq_zero_of_no_sems (by decide) r.2⟩) (run m ρ)

end Cert.ReferenceIdeal.Mean

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_time_ids_nonnegative
public import proofs.«01_k».proof.Proof.Ref
public import Idealize.ShloMosaic.Adequacy
public import Idealize.ShloMosaic.Init

@[expose] public section

noncomputable section

namespace Cert.Proof

open Idealize.ShloMosaic Idealize.SL.Sem Cert.Kernel

/-- The kernel and the reference end with equal results, of time ids that are not negative. -/
theorem equal_results : Cert.algebraic_KernelIdeal_ReferenceIdeal_pre_time_ids_nonnegative
    (hKernelIdeal := Cert.KernelIdeal.Gen.facts) (hReferenceIdeal := Cert.ReferenceIdeal.Gen.facts)
    (hPre_time_ids_nonnegative := Cert.Pre_time_ids_nonnegative.Gen.facts) := by
  intro m g m' g' hpre hargs
  refine ⟨_, Cert.KernelIdeal.Mean.run m g, ?_⟩
  refine (θ_run Cert.ReferenceIdeal.defs _ _).mono (fun r h c => ⟨?_, (h c).2⟩) (Cert.ReferenceIdeal.Mean.run m' g')
  rw [(h c).1, (hargs c).1, (hargs c).2.1, (hargs c).2.2.1, (hargs c).2.2.2]
  exact Cert.ReferenceIdeal.Mean.refAll_at _ _ _ _ fun i => congrFun (hpre c) i

/-- Every claim of the certificate. -/
theorem claim : Cert.Claim :=
  ⟨Cert.Kernel.Gen.facts, Cert.KernelIdeal.Gen.facts, Cert.ReferenceIdeal.Gen.facts, Cert.Pre_time_ids_nonnegative.Gen.facts,
    fun m g _ => Cert.Kernel.Gen.frame m g,
    fun m g _ => Cert.KernelIdeal.Gen.frame m g,
    fun m g _ => Cert.KernelIdeal.Gen.frame m g,
    fun m g _ => Cert.ReferenceIdeal.Mean.frame m g,
    fun m g _ => Cert.ReferenceIdeal.Mean.frame m g,
    trivial,
    equal_results⟩

end Cert.Proof

end
